-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log_norm" .f32 0xCCE059A9#32 (((-64000000) * (Real.log (13176795 / 2097152)) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384 : Shape := ⟨1, ![16384]⟩
abbrev S16384x20 : Shape := ⟨2, ![16384, 20]⟩
abbrev S16384x50 : Shape := ⟨2, ![16384, 50]⟩
abbrev S1000000x64 : Shape := ⟨2, ![1000000, 64]⟩
abbrev S64x1000000 : Shape := ⟨2, ![64, 1000000]⟩
abbrev S1x1 : Shape := ⟨2, ![1, 1]⟩
abbrev S64x57344 : Shape := ⟨2, ![64, 57344]⟩
abbrev S64x128 : Shape := ⟨2, ![64, 128]⟩
abbrev S1x64x128 : Shape := ⟨3, ![1, 64, 128]⟩
abbrev S1 : Shape := ⟨1, ![1]⟩
abbrev S1x1x1 : Shape := ⟨3, ![1, 1, 1]⟩
abbrev S_ : Shape := ⟨0, ![]⟩

abbrev nBuf : Space → Nat
  | .hbm => 9
  | .vmem => 5
  | .smem => 1
  | _ => 0

abbrev bufTy : (tb : Table) → Fin (tcTables nBuf tb) → BufTy
  | .hbm, ⟨0, _⟩ => ⟨S16384, .i32⟩
  | .hbm, ⟨1, _⟩ => ⟨S16384x20, .i32⟩
  | .hbm, ⟨2, _⟩ => ⟨S16384x50, .i32⟩
  | .hbm, ⟨3, _⟩ => ⟨S1000000x64, .f32⟩
  | .hbm, ⟨4, _⟩ => ⟨S1000000x64, .f32⟩
  | .hbm, ⟨5, _⟩ => ⟨S64x1000000, .f32⟩
  | .hbm, ⟨6, _⟩ => ⟨S64x1000000, .f32⟩
  | .hbm, ⟨7, _⟩ => ⟨S1x1, .f32⟩
  | .hbm, ⟨8, _⟩ => ⟨S_, .f32⟩
  | .local _ .vmem, ⟨0, _⟩ => ⟨S64x57344, .f32⟩
  | .local _ .vmem, ⟨1, _⟩ => ⟨S64x57344, .f32⟩
  | .local _ .vmem, ⟨2, _⟩ => ⟨S64x57344, .f32⟩
  | .local _ .vmem, ⟨3, _⟩ => ⟨S64x57344, .f32⟩
  | .local _ .vmem, ⟨4, _⟩ => ⟨S64x128, .f32⟩
  | .local _ .smem, ⟨0, _⟩ => ⟨S1x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![18], ![false]⟩

def k0_cond3 (i : grid0.Coords) : BitVec 1 :=
  let arg0 : BitVec 32 := BitVec.ofNat 32 (i 0).val
  let c17_i32_2 : BitVec 32 := 17#32
  let v6 : BitVec 1 := Scalar.cmpi .eq arg0 c17_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x57344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x57344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "log_norm" => some (((-64000000) * (Real.log (13176795 / 2097152)) : ℝ) : EReal)
  | _ => none
-- ==== ReferenceIdeal.lean ====
abbrev S16384 : Shape := ⟨1, ![16384]⟩
abbrev S16384x20 : Shape := ⟨2, ![16384, 20]⟩
abbrev S16384x50 : Shape := ⟨2, ![16384, 50]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S16384x20x1 : Shape := ⟨3, ![16384, 20, 1]⟩
abbrev S1x1x1 : Shape := ⟨3, ![1, 1, 1]⟩
abbrev S16384x20x64 : Shape := ⟨3, ![16384, 20, 64]⟩
abbrev S16384x50x1 : Shape := ⟨3, ![16384, 50, 1]⟩
abbrev S16384x50x64 : Shape := ⟨3, ![16384, 50, 64]⟩
abbrev S16384x1x64 : Shape := ⟨3, ![16384, 1, 64]⟩
abbrev S16384x1x50x64 : Shape := ⟨4, ![16384, 1, 50, 64]⟩

abbrev nBuf : Space → Nat
  | .hbm => 130
  | .vmem => 0
  | .smem => 0
  | _ => 0

abbrev hbmTy0_0 (i : Nat) : BufTy := match i % 128 with
  | 0 => ⟨S16384, .i32⟩
  | 1 => ⟨S16384x20, .i32⟩
  | 2 => ⟨S16384x50, .i32⟩
  | 3 => ⟨S1000000x64, .f32⟩
  | 4 => ⟨S1000000x64, .f32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S16384x1, .i32⟩
  | 13 => ⟨S1, .i32⟩
  | 14 => ⟨S_, .i32⟩
  | 15 => ⟨S16384x1, .i32⟩
  | 16 => ⟨S16384x1, .i1⟩
  | 17 => ⟨S1x1, .i32⟩
  | 18 => ⟨S16384x1, .i32⟩
  | 19 => ⟨S16384x1, .i1⟩
  | 20 => ⟨S16384x1, .i1⟩
  | 21 => ⟨S_, .i1⟩
  | 22 => ⟨S16384, .i1⟩
  | 23 => ⟨S16384x64, .f32⟩
  | 24 => ⟨S16384x64, .i1⟩
  | 25 => ⟨S_, .f32⟩
  | 26 => ⟨S16384x64, .f32⟩
  | 27 => ⟨S16384x64, .f32⟩
  | 28 => ⟨S_, .i32⟩
  | 29 => ⟨S16384x20, .i32⟩
  | 30 => ⟨S16384x20, .i1⟩
  | 31 => ⟨S_, .i32⟩
  | 32 => ⟨S16384x20, .i32⟩
  | 33 => ⟨S16384x20, .i32⟩
  | 34 => ⟨S16384x20, .i32⟩
  | 35 => ⟨S16384x20x1, .i32⟩
  | 36 => ⟨S1, .i32⟩
  | 37 => ⟨S_, .i32⟩
  | 38 => ⟨S16384x20x1, .i32⟩
  | 39 => ⟨S16384x20x1, .i1⟩
  | 40 => ⟨S1x1x1, .i32⟩
  | 41 => ⟨S16384x20x1, .i32⟩
  | 42 => ⟨S16384x20x1, .i1⟩
  | 43 => ⟨S16384x20x1, .i1⟩
  | 44 => ⟨S_, .i1⟩
  | 45 => ⟨S16384x20, .i1⟩
  | 46 => ⟨S16384x20x64, .f32⟩
  | 47 => ⟨S16384x20x64, .i1⟩
  | 48 => ⟨S_, .f32⟩
  | 49 => ⟨S16384x20x64, .f32⟩
  | 50 => ⟨S16384x20x64, .f32⟩
  | 51 => ⟨S_, .f32⟩
  | 52 => ⟨S16384x64, .f32⟩
  | 53 => ⟨S_, .i32⟩
  | 54 => ⟨S16384x50, .i32⟩
  | 55 => ⟨S16384x50, .i1⟩
  | 56 => ⟨S_, .i32⟩
  | 57 => ⟨S16384x50, .i32⟩
  | 58 => ⟨S16384x50, .i32⟩
  | 59 => ⟨S16384x50, .i32⟩
  | 60 => ⟨S16384x50x1, .i32⟩
  | 61 => ⟨S1, .i32⟩
  | 62 => ⟨S_, .i32⟩
  | 63 => ⟨S16384x50x1, .i32⟩
  | 64 => ⟨S16384x50x1, .i1⟩
  | 65 => ⟨S1x1x1, .i32⟩
  | 66 => ⟨S16384x50x1, .i32⟩
  | 67 => ⟨S16384x50x1, .i1⟩
  | 68 => ⟨S16384x50x1, .i1⟩
  | 69 => ⟨S_, .i1⟩
  | 70 => ⟨S16384x50, .i1⟩
  | 71 => ⟨S16384x50x64, .f32⟩
  | 72 => ⟨S16384x50x64, .i1⟩
  | 73 => ⟨S_, .f32⟩
  | 74 => ⟨S16384x50x64, .f32⟩
  | 75 => ⟨S16384x50x64, .f32⟩
  | 76 => ⟨S16384x64, .f32⟩
  | 77 => ⟨S_, .f32⟩
  | 78 => ⟨S16384, .f32⟩
  | 79 => ⟨S16384x1x64, .f32⟩
  | 80 => ⟨S16384x1x50x64, .f32⟩
  | 81 => ⟨S16384x50x64, .f32⟩
  | 82 => ⟨S16384x50x64, .f32⟩
  | 83 => ⟨S_, .f32⟩
  | 84 => ⟨S16384x64, .f32⟩
  | 85 => ⟨S_, .f32⟩
  | 86 => ⟨S16384, .f32⟩
  | 87 => ⟨S_, .f32⟩
  | 88 => ⟨S1000000x64, .f32⟩
  | 89 => ⟨S1000000x64, .f32⟩
  | 90 => ⟨S1000000x64, .f32⟩
  | 91 => ⟨S_, .f32⟩
  | 92 => ⟨S1000000x64, .f32⟩
  | 93 => ⟨S1000000x64, .f32⟩
  | 94 => ⟨S_, .f32⟩
  | 95 => ⟨S_, .f32⟩
  | 96 => ⟨S_, .f32⟩
  | 97 => ⟨S1000000x64, .f32⟩
  | 98 => ⟨S1000000x64, .f32⟩
  | 99 => ⟨S_, .f32⟩
  | 100 => ⟨S_, .f32⟩
  | 101 => ⟨S_, .f32⟩
  | 102 => ⟨S_, .f32⟩
  | 103 => ⟨S_, .f32⟩
  | 104 => ⟨S1000000x64, .f32⟩
  | 105 => ⟨S1000000x64, .f32⟩
  | 106 => ⟨S_, .f32⟩
  | 107 => ⟨S_, .f32⟩
  | 108 => ⟨S_, .f32⟩
  | 109 => ⟨S1000000x64, .f32⟩
  | 110 => ⟨S1000000x64, .f32⟩
  | 111 => ⟨S1000000x64, .f32⟩
  | 112 => ⟨S_, .f32⟩
  | 113 => ⟨S1000000x64, .f32⟩
  | 114 => ⟨S1000000x64, .f32⟩
  | 115 => ⟨S_, .f32⟩
  | 116 => ⟨S_, .f32⟩
  | 117 => ⟨S_, .f32⟩
  | 118 => ⟨S1000000x64, .f32⟩
  | 119 => ⟨S1000000x64, .f32⟩
  | 120 => ⟨S_, .f32⟩
  | 121 => ⟨S_, .f32⟩
  | 122 => ⟨S_, .f32⟩
  | 123 => ⟨S_, .f32⟩
  | 124 => ⟨S_, .f32⟩
  | 125 => ⟨S1000000x64, .f32⟩
  | 126 => ⟨S1000000x64, .f32⟩
  | 127 => ⟨S_, .f32⟩
  | _ => ⟨S16384, .i32⟩

abbrev hbmTy0_1 (i : Nat) : BufTy := match i % 128 with
  | 0 => ⟨S_, .f32⟩
  | 1 => ⟨S_, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_cst : Ref sig .tc := ⟨.hbm, 51, rfl⟩
abbrev main_v2 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v3 : Ref sig .tc := ⟨.hbm, 75, rfl⟩
abbrev main_v4 : Ref sig .tc := ⟨.hbm, 76, rfl⟩
abbrev main_cst_0 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_v8 : Ref sig .tc := ⟨.hbm, 81, rfl⟩
abbrev main_v9 : Ref sig .tc := ⟨.hbm, 82, rfl⟩
abbrev main_cst_1 : Ref sig .tc := ⟨.hbm, 83, rfl⟩
abbrev main_v10 : Ref sig .tc := ⟨.hbm, 84, rfl⟩
abbrev main_cst_2 : Ref sig .tc := ⟨.hbm, 85, rfl⟩
abbrev main_v11 : Ref sig .tc := ⟨.hbm, 86, rfl⟩
abbrev main_cst_3 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_cst_4 : Ref sig .tc := ⟨.hbm, 91, rfl⟩
abbrev main_v15 : Ref sig .tc := ⟨.hbm, 92, rfl⟩
abbrev main_v16 : Ref sig .tc := ⟨.hbm, 93, rfl⟩
abbrev main_cst_5 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩
abbrev main_cst_6 : Ref sig .tc := ⟨.hbm, 99, rfl⟩
abbrev main_v21 : Ref sig .tc := ⟨.hbm, 100, rfl⟩
abbrev main_cst_7 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_cst_8 : Ref sig .tc := ⟨.hbm, 106, rfl⟩
abbrev main_v26 : Ref sig .tc := ⟨.hbm, 107, rfl⟩
abbrev main_cst_9 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_cst_10 : Ref sig .tc := ⟨.hbm, 112, rfl⟩
abbrev main_v30 : Ref sig .tc := ⟨.hbm, 113, rfl⟩
abbrev main_v31 : Ref sig .tc := ⟨.hbm, 114, rfl⟩
abbrev main_cst_11 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_cst_12 : Ref sig .tc := ⟨.hbm, 120, rfl⟩
abbrev main_v36 : Ref sig .tc := ⟨.hbm, 121, rfl⟩
abbrev main_cst_13 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_cst_14 : Ref sig .tc := ⟨.hbm, 127, rfl⟩
abbrev main_v41 : Ref sig .tc := ⟨.hbm, 128, rfl⟩
abbrev main_v42 : Ref sig .tc := ⟨.hbm, 129, rfl⟩

abbrev nD : Nat := 1
abbrev τ : Topo := Topo.v7x

variable {F : FTy → Type} [FloatOps F]
-- ==== Proof.Ideal.Straight.lean ====
module

public import proofs.«01_k».proof.Proof.Gen.KernelIdeal.Skeleton

@[expose] public section

set_option maxRecDepth 65536

noncomputable section

namespace Cert.KernelIdeal.Prior

open Cert.KernelIdeal Cert.KernelIdeal.Gen
open Idealize.ShloMosaic Idealize.SL.Sem

variable {F : FTy → Type} [FloatOps F] [Named F]

/-- Column block `k` (128 lanes) of a staging buffer lies inside it. -/
theorem cols_slices (k : ℕ) (h : k < 448) : S64x57344.Slices ![0, 128 * k] S64x128 := by
  refine ⟨rfl, fun a => ?_⟩
  fin_cases a
  · exact le_refl 64
  · show 128 * k + 128 ≤ 57344
    omega

/-- The same, as the evidence a load takes. -/
theorem cols_inb (k : ℕ) (h : k < 448) : ∀ a, (![0, 128 * k] : Fin 2 → ℕ) a + S64x128.size a ≤ S64x57344.size a := by
  intro a
  fin_cases a
  · exact le_refl 64
  · show 128 * k + 128 ≤ 57344
    omega

/-- Column block `k` of a buffer's contents. -/
def cols (X : FVec F S64x57344 .f32) (k : ℕ) (h : k < 448) : FVec F S64x128 .f32 :=
  extractStridedSlice S64x128 ![0, 128 * k] X (cols_slices k h)

/-- One step of the accumulation: the two tables' squares added to the running sum, one after the other. -/
def step (a w c : FVec F S64x128 .f32) : FVec F S64x128 .f32 := addf (addf a (mulf w w)) (mulf c c)

/-- The running sum after the first `n` column blocks. -/
def blockSum (X Y : FVec F S64x57344 .f32) (a : FVec F S64x128 .f32) : (n : ℕ) → n ≤ 448 → FVec F S64x128 .f32
  | 0, _ => a
  | n + 1, h => step (blockSum X Y a n (Nat.le_of_succ_le h)) (cols X n h) (cols Y n h)

/-- The load of column block `k` of a staging buffer. -/
abbrev ldCols (M : Memref sig .tc .vmem S64x57344 .f32) (k : ℕ) (h : k < 448) :
    TpuEff nD τ sig (Elt F) Λ₀ .tc (Vec F S64x128 .f32) :=
  .load M (Rect.unit (s := S64x57344) ![0, 128 * k] S64x128.size (cols_inb k h)).toLoadRect (View.loadsAt_vmem h_S64x128)

/-- The last point's program over `n` column blocks from block `k` on: load both tables' blocks, add their squares. -/
def sweep (M N : Memref sig .tc .vmem S64x57344 .f32) {α : Type} (K : FVec F S64x128 .f32 → Prog (TpuEff nD τ sig (Elt F) Λ₀ .tc) α) :
    (n k : ℕ) → k + n ≤ 448 → FVec F S64x128 .f32 → Prog (TpuEff nD τ sig (Elt F) Λ₀ .tc) α
  | 0, _, _, a => K a
  | n + 1, k, h, a =>
    .op (ldCols M k (by omega)) fun w => .op (ldCols N k (by omega)) fun c =>
      sweep M N K n (k + 1) (by omega) (step a (shapeCast S64x128 w shapeCasts_S64x128_S64x128) (shapeCast S64x128 c shapeCasts_S64x128_S64x128))

/-- The load of the whole accumulator. -/
abbrev ldAcc (M : Memref sig .tc .vmem S64x128 .f32) : TpuEff nD τ sig (Elt F) Λ₀ .tc (Vec F S64x128 .f32) :=
  .load M (Rect.unit (s := S64x128) ![0, 0] S64x128.size inb_S64x128_S64x128_0_0).toLoadRect (View.loadsAt_vmem h_S64x128)
/-- The store of the whole accumulator. -/
abbrev stAcc (M : Memref sig .tc .vmem S64x128 .f32) (x : FVec F S64x128 .f32) : TpuEff nD τ sig (Elt F) Λ₀ .tc PUnit :=
  .store M (Rect.unit (s := S64x128) ![0, 0] S64x128.size inb_S64x128_S64x128_0_0) x Finset.univ (View.stores_vmem_bits_univ h_S64x128 rfl) (.inl rfl)
/-- The load of a whole staging buffer. -/
abbrev ldBlock (M : Memref sig .tc .vmem S64x57344 .f32) : TpuEff nD τ sig (Elt F) Λ₀ .tc (Vec F S64x57344 .f32) :=
  .load M (Rect.unit (s := S64x57344) ![0, 0] S64x57344.size inb_S64x57344_S64x57344_0_0).toLoadRect (View.loadsAt_vmem h_S64x57344)

/-- The program of a full block: the accumulator and both blocks loaded, the 448 column blocks summed, the sum stored. -/
def full (M N : Memref sig .tc .vmem S64x57344 .f32) (A : Memref sig .tc .vmem S64x128 .f32) : Prog (TpuEff nD τ sig (Elt F) Λ₀ .tc) PUnit :=
  .op (ldAcc A) fun a => .op (ldBlock M) fun x => .op (ldBlock N) fun y => .op (ldAcc A) fun _ =>
    .op (stAcc A (k0_pay2 (blockSum (k0_pay4 x) (k0_pay5 y) a 448 (le_refl 448)))) fun _ => .ret ⟨⟩

/-- The program of the first point's start: the accumulator zeroed. -/
def start (A : Memref sig .tc .vmem S64x128 .f32) (K : Prog (TpuEff nD τ sig (Elt F) Λ₀ .tc) PUnit) : Prog (TpuEff nD τ sig (Elt F) Λ₀ .tc) PUnit :=
  .op (ldAcc A) fun _ => .op (stAcc A k0_pay1) fun _ => K

variable (i : grid0.Coords) (arg1 : Memref sig .tc .vmem S64x57344 .f32) (harg1 : arg1.IsWhole) (arg2 : Memref sig .tc .vmem S64x57344 .f32) (harg2 : arg2.IsWhole) (arg3 : Memref sig .tc .smem S1x1 .f32) (harg3 : arg3.IsWhole) (arg4 : Memref sig .tc .vmem S64x128 .f32) (harg4 : arg4.IsWhole)

/-- The program of the last point: the ragged tail swept, its last column block masked, the accumulator reduced, and
    the result's word stored. -/
def last (M N : Memref sig .tc .vmem S64x57344 .f32) (O : Memref sig .tc .smem S1x1 .f32) (A : Memref sig .tc .vmem S64x128 .f32) :
    Prog (TpuEff nD τ sig (Elt F) Λ₀ .tc) PUnit :=
  .op (ldAcc A) fun a => sweep M N (fun s => .op (ldCols M 196 (by omega)) fun w => .op (ldCols N 196 (by omega)) fun c =>
    (smemLoad O (Rect.unit (s := S1x1) ![0, 0] S1x1.size inb_S1x1_S1x1_0_0) numel1_S1x1 rfl) >>= fun _ =>
      .op (.store O (Rect.unit (s := S1x1) ![0, 0] S1x1.size inb_S1x1_S1x1_0_0)
        (fun _ => k0_pay3 (iota .tc S64x128 32 [1] iota_S64x128_d1_w32) s (shapeCast S64x128 w shapeCasts_S64x128_S64x128) c)
        Finset.univ (View.stores_smem_one rfl numel1_S1x1) (.inl rfl)) fun _ => .ret ⟨⟩) 196 0 (by omega) a

/-- The condition of the first point's start, as printed. -/
abbrev isFirst (i : grid0.Coords) : Prop :=
  Scalar.cmpi .ne (Scalar.extui (Scalar.cmpi .eq (BitVec.ofNat 32 (i 0).val) 0#32) : BitVec 32) 0#32 = 1#1
/-- The condition of a full block, as printed. -/
abbrev isFull (i : grid0.Coords) : Prop :=
  Scalar.cmpi .ne (Scalar.extui (Scalar.cmpi .slt (BitVec.ofNat 32 (i 0).val) 17#32) : BitVec 32) 0#32 = 1#1

/-- The body at the first point: the accumulator zeroed, then a full block. -/
theorem body_first (h₁ : isFirst i) (h₂ : isFull i) (h₃ : ¬k0_cond3 i = 1#1) :
    cc0__prior_body_skel (F := F) i arg1 harg1 arg2 harg2 arg3 harg3 arg4 harg4 = start arg4 (full arg1 arg2 arg4) := by
  unfold cc0__prior_body_skel
  rw [dif_pos h₁, dif_pos h₂, dif_neg h₃]
  rfl

/-- The body at a later point with a full block. -/
theorem body_full (h₁ : ¬isFirst i) (h₂ : isFull i) (h₃ : ¬k0_cond3 i = 1#1) :
    cc0__prior_body_skel (F := F) i arg1 harg1 arg2 harg2 arg3 harg3 arg4 harg4 = full arg1 arg2 arg4 := by
  unfold cc0__prior_body_skel
  rw [dif_neg h₁, dif_pos h₂, dif_neg h₃]
  rfl

/-- The body at the last point. -/
theorem body_last (h₁ : ¬isFirst i) (h₂ : ¬isFull i) (h₃ : k0_cond3 i = 1#1) :
    cc0__prior_body_skel (F := F) i arg1 harg1 arg2 harg2 arg3 harg3 arg4 harg4 = last arg1 arg2 arg3 arg4 := by
  unfold cc0__prior_body_skel
  rw [dif_neg h₁, dif_neg h₂, dif_pos h₃]
  rfl

end Cert.KernelIdeal.Prior

end
-- ==== Proof.Ideal.Triples.lean ====
module

public import proofs.«01_k».proof.Proof.Ideal.Straight
public import proofs.«01_k».proof.Proof.Gen.KernelIdeal.Frame
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Prior

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The kernel's variants: none. -/
abbrev 𝒱₀ : Variants := Variants.none

variable (c : Dev nD)

/-- A rectangle of a shape's own sizes at offset zero places every index at itself. -/
theorem emb_full {s : Shape} {off : Fin s.rank → ℕ} (hoff : off = fun _ => 0) (inb : ∀ a, off a + s.size a ≤ s.size a)
    (j : s.Idx) : (Rect.unit off s.size inb).emb j = j := by
  subst hoff
  funext a
  refine Fin.ext ?_
  show 0 + 1 * (j a).val = (j a).val
  omega

section Rules

variable {cs : CoreSpace} {s : Shape} {e : EltTy}

/-- A load through a rectangle of an owned memref reads its contents at the rectangle's indices. -/
theorem wp_load_owned (M : Memref sig .tc cs s e) (r : Rect s) (hl : M.view.LoadsAt r.toLoadRect) (X : s.Idx → Elt F e)
    (k : (r.shape.Idx → Elt F e) → Prog (TpuEff nD τ sig (Elt F) Λ₀ .tc) PUnit) (Q : PUnit → sProp 𝕄) :
    owns (c : Thread nD τ) M fullShare X
      ⊢ iprop((owns (c : Thread nD τ) M fullShare X -∗ wp frame (wpE (defs₀ (F := F)) 𝒱₀ c none) Set.univ (k (View.ld X r)) Q) -∗ wp frame (wpE (defs₀ (F := F)) 𝒱₀ c none) Set.univ (.op (.load M r.toLoadRect hl) k) Q) := by
  unfold owns
  iintro ⟨%f, %hf, H⟩ Hk
  iapply (wp_load (c := (c : Thread nD τ)) 𝒱₀ none Set.univ (View.setOn_subset_set _ _)) $$ H
  iintro H
  rw [View.readAt_eq_ld, hf]
  iapply Hk
  iexists f
  isplitr
  · ipureintro; exact hf
  iexact H

/-- An unmasked store through the rectangle of a whole memref leaves it owned at the stored words. -/
theorem wp_store_owned (M : Memref sig .tc cs s e) (off : Fin s.rank → ℕ) (hoff : off = fun _ => 0) (inb : ∀ a, off a + s.size a ≤ s.size a)
    (w : s.Idx → Elt F e) (X : s.Idx → Elt F e)
    (hx : (M.access (Rect.unit off s.size inb)).Stores Finset.univ) (hm)
    (k : PUnit → Prog (TpuEff nD τ sig (Elt F) Λ₀ .tc) PUnit) (Q : PUnit → sProp 𝕄) :
    owns (c : Thread nD τ) M fullShare X
      ⊢ iprop((owns (c : Thread nD τ) M fullShare w -∗ wp frame (wpE (defs₀ (F := F)) 𝒱₀ c none) Set.univ (k ⟨⟩) Q)
        -∗ wp frame (wpE (defs₀ (F := F)) 𝒱₀ c none) Set.univ (.op (.store M (Rect.unit off s.size inb) w Finset.univ hx hm) k) Q) := by
  subst hoff
  unfold owns
  iintro ⟨%f, %hf, H⟩ Hk
  iapply (wp_store (c := (c : Thread nD τ)) (m := M) (r := Rect.unit (fun _ => 0) s.size inb) (f := f) (S := M.view.set) 𝒱₀ none Set.univ
    ((View.setOn_subset_set _ _).trans (View.set_slice_subset _ _))) $$ H
  iintro H
  iapply Hk
  iexists ((M.access (Rect.unit (fun _ => 0) s.size inb)).write (Elt F) f w Finset.univ)
  isplitr
  · ipureintro
    funext j
    have h := View.read_slice_write_emb (v := M.view) (Rect.unit (fun _ => 0) s.size inb) f w (x := j) (Finset.mem_univ j)
    rwa [emb_full rfl inb j] at h
  iexact H

end Rules

/-- A whole buffer read through its own rectangle at offset zero. -/
theorem ld_full {s : Shape} {e : EltTy} (X : s.Idx → Elt F e) (off : Fin s.rank → ℕ) (hoff : off = fun _ => 0)
    (inb : ∀ a, off a + s.size a ≤ s.size a) : View.ld X (Rect.unit off s.size inb) = X :=
  funext fun j => congrArg X (emb_full hoff inb j)

/-- The zero offset, as the program writes it. -/
theorem off_zero : (![0, 0] : Fin 2 → ℕ) = fun _ => 0 := funext fun a => by fin_cases a <;> rfl

/-- A load of column block `k` reads that column block of the contents. -/
theorem ld_cols (X : S64x57344.Idx → Elt F .f32) (k : ℕ) (h : k < 448) :
    View.ld X (Rect.unit (s := S64x57344) ![0, 128 * k] S64x128.size (cols_inb k h)) = cols X k h := by
  funext j
  refine congrArg X (funext fun a => Fin.ext ?_)
  fin_cases a <;> exact congrArg (_ + ·) (Nat.one_mul _)

section Runs

variable (M N : Memref sig .tc .vmem S64x57344 .f32) (O : Memref sig .tc .smem S1x1 .f32) (A : Memref sig .tc .vmem S64x128 .f32)
variable (X Y : S64x57344.Idx → Elt F .f32) (a : S64x128.Idx → Elt F .f32) (o : S1x1.Idx → Elt F .f32)

/-- A full block: from both blocks and the accumulator, the accumulator ends at the running sum of the 448 column
    blocks, the blocks unchanged. -/
theorem wp_full (Q : PUnit → sProp 𝕄) :
    iprop(owns (c : Thread nD τ) M fullShare X ∗ owns (c : Thread nD τ) N fullShare Y ∗ owns (c : Thread nD τ) A fullShare a
        ∗ (iprop(owns (c : Thread nD τ) M fullShare X ∗ owns (c : Thread nD τ) N fullShare Y
            ∗ owns (c : Thread nD τ) A fullShare (blockSum X Y a 448 (le_refl 448))) -∗ Q ⟨⟩))
      ⊢ wp frame (wpE (defs₀ (F := F)) 𝒱₀ c none) Set.univ (full M N A) Q := by
  have hA := ld_full (F := F) (e := .f32) a _ off_zero inb_S64x128_S64x128_0_0
  have hX := ld_full (F := F) (e := .f32) X _ off_zero inb_S64x57344_S64x57344_0_0
  have hY := ld_full (F := F) (e := .f32) Y _ off_zero inb_S64x57344_S64x57344_0_0
  have h4 : k0_pay4 X = X := shapeCast_self _ _
  have h5 : k0_pay5 Y = Y := shapeCast_self _ _
  have h2 (z : FVec F S64x128 .f32) : k0_pay2 z = z := shapeCast_self _ _
  unfold full
  iintro ⟨HX, HY, HA, Hk⟩
  iapply (wp_load_owned c A) $$ HA
  iintro HA
  iapply (wp_load_owned c M) $$ HX
  iintro HX
  iapply (wp_load_owned c N) $$ HY
  iintro HY
  iapply (wp_load_owned c A) $$ HA
  iintro HA
  iapply (wp_store_owned c A _ off_zero) $$ HA
  iintro HA
  rw [hA, hX, hY, h4, h5, h2]
  sl_step
  iapply Hk
  isplitl [HX]; · iexact HX
  isplitl [HY]; · iexact HY
  iexact HA

/-- The first point's start: the accumulator, at anything, ends at zeros. -/
theorem wp_start (K : Prog (TpuEff nD τ sig (Elt F) Λ₀ .tc) PUnit) (Q : PUnit → sProp 𝕄) :
    iprop(owns (c : Thread nD τ) A fullShare a
        ∗ (owns (c : Thread nD τ) A fullShare (k0_pay1 : FVec F S64x128 .f32) -∗ wp frame (wpE (defs₀ (F := F)) 𝒱₀ c none) Set.univ K Q))
      ⊢ wp frame (wpE (defs₀ (F := F)) 𝒱₀ c none) Set.univ (start A K) Q := by
  unfold start
  iintro ⟨HA, Hk⟩
  iapply (wp_load_owned c A) $$ HA
  iintro HA
  iapply (wp_store_owned c A _ off_zero) $$ HA
  iexact Hk

/-- A sweep of `n` column blocks from block `k` on, started at the running sum of the first `k`: it continues at the
    running sum of the first `k + n`. -/
theorem wp_sweep (K : FVec F S64x128 .f32 → Prog (TpuEff nD τ sig (Elt F) Λ₀ .tc) PUnit) (Q : PUnit → sProp 𝕄) :
    ∀ (n k : ℕ) (h : k + n ≤ 448),
      iprop(owns (c : Thread nD τ) M fullShare X ∗ owns (c : Thread nD τ) N fullShare Y
        ∗ (iprop(owns (c : Thread nD τ) M fullShare X ∗ owns (c : Thread nD τ) N fullShare Y)
            -∗ wp frame (wpE (defs₀ (F := F)) 𝒱₀ c none) Set.univ (K (blockSum X Y a (k + n) h)) Q))
      ⊢ wp frame (wpE (defs₀ (F := F)) 𝒱₀ c none) Set.univ (sweep M N K n k h (blockSum X Y a k (by omega))) Q
  | 0, k, h => by
    iintro ⟨HX, HY, Hk⟩
    unfold sweep
    iapply Hk
    isplitl [HX]; · iexact HX
    iexact HY
  | n + 1, k, h => by
    have hX := ld_cols X k (by omega)
    have hY := ld_cols Y k (by omega)
    have ih := wp_sweep K Q n (k + 1) (by omega)
    have hn : blockSum X Y a (k + (n + 1)) h = blockSum X Y a (k + 1 + n) (by omega) := by
      congr 1; omega
    iintro ⟨HX, HY, Hk⟩
    unfold sweep
    iapply (wp_load_owned c M) $$ HX
    iintro HX
    iapply (wp_load_owned c N) $$ HY
    iintro HY
    rw [hX, hY, shapeCast_self, shapeCast_self, hn]
    iapply ih
    isplitl [HX]; · iexact HX
    isplitl [HY]; · iexact HY
    iexact Hk

/-- The result's word from the two tables' last blocks and the accumulator: 196 column blocks summed, the 197th masked,
    the accumulator reduced and scaled, the normalising constant added. -/
def tailWord (X Y : FVec F S64x57344 .f32) (a : FVec F S64x128 .f32) : F .f32 :=
  k0_pay3 (iota .tc S64x128 32 [1] iota_S64x128_d1_w32) (blockSum X Y a 196 (by omega)) (cols X 196 (by omega)) (cols Y 196 (by omega))

/-- The last point: from both blocks, the accumulator and the result's word at anything, the result's word ends at
    `tailWord`, the rest unchanged. -/
theorem wp_last (Q : PUnit → sProp 𝕄) :
    iprop(owns (c : Thread nD τ) M fullShare X ∗ owns (c : Thread nD τ) N fullShare Y ∗ owns (c : Thread nD τ) O fullShare o
        ∗ owns (c : Thread nD τ) A fullShare a
        ∗ (iprop(owns (c : Thread nD τ) M fullShare X ∗ owns (c : Thread nD τ) N fullShare Y
            ∗ owns (c : Thread nD τ) O fullShare ((fun _ => tailWord X Y a) : S1x1.Idx → Elt F .f32) ∗ owns (c : Thread nD τ) A fullShare a) -∗ Q ⟨⟩))
      ⊢ wp frame (wpE (defs₀ (F := F)) 𝒱₀ c none) Set.univ (last M N O A) Q := by
  have hA := ld_full (F := F) (e := .f32) a _ off_zero inb_S64x128_S64x128_0_0
  have hX := ld_cols X 196 (by omega)
  have hY := ld_cols Y 196 (by omega)
  unfold last
  iintro ⟨HX, HY, HO, HA, Hk⟩
  iapply (wp_load_owned c A) $$ HA
  iintro HA
  rw [hA]
  iapply (wp_sweep c M N X Y a _ Q 196 0 (by omega))
  isplitl [HX]; · iexact HX
  isplitl [HY]; · iexact HY
  iintro ⟨HX, HY⟩
  iapply (wp_load_owned c M) $$ HX
  iintro HX
  iapply (wp_load_owned c N) $$ HY
  iintro HY
  rw [hX, hY, shapeCast_self]
  unfold smemLoad smemLoadElt
  simp only [Prog.bind_op, Prog.bind_ret]
  iapply (wp_load_owned c O) $$ HO
  iintro HO
  iapply (wp_store_owned c O _ off_zero) $$ HO
  iintro HO
  sl_step
  iapply Hk
  isplitl [HX]; · iexact HX
  isplitl [HY]; · iexact HY
  isplitl [HO]; · iexact HO
  iexact HA

end Runs

end Cert.KernelIdeal.Prior

end
-- ==== Proof.Ideal.Blocks.lean ====
module

public import proofs.«01_k».proof.Proof.Ideal.Triples

@[expose] public section

set_option maxRecDepth 16384

noncomputable section

namespace Cert.KernelIdeal.Prior

open Cert.KernelIdeal Cert.KernelIdeal.Gen
open Idealize.ShloMosaic Idealize.ShloMosaic.TcCoe

variable {F : FTy → Type} [FloatOps F] [Named F]

/-! ## What the last point reads of its blocks

The last point's block overhangs the array: only its first 25152 columns hold the array's. The result's word depends on
no other: the 196 whole column blocks lie among them, and of the 197th the mask keeps the first 64 lanes. -/

/-- The mask of the last column block keeps the lanes below 64 and puts zero on the others. -/
theorem mask_eq (x : FVec F S64x128 .f32) :
    select (cmpi .slt (iota .tc S64x128 32 [1] iota_S64x128_d1_w32) (broadcast S64x128 64#32)) x
        (broadcast S64x128 (Scalar.ofBits .f32 0x00000000#32))
      = fun j : S64x128.Idx => if (j 1).val < 64 then x j else Scalar.ofBits .f32 0x00000000#32 := by
  funext j
  have h : ∀ l : Fin 128, (IntOp.cmpi .slt (BitVec.ofNat 32 (0 * 128 + l.val)) 64#32 = 1#1) ↔ l.val < 64 := by decide +kernel
  have hj := h (j 1)
  show (if IntOp.cmpi .slt (BitVec.ofNat 32 (0 * 128 + (j 1).val)) 64#32 = 1#1 then x j else _) = _
  by_cases hl : (j 1).val < 64
  · rw [if_pos (hj.mpr hl), if_pos hl]
  · rw [if_neg fun e => hl (hj.mp e), if_neg hl]; rfl

/-- Column block `k` of a buffer, by index. -/
theorem cols_apply (X : FVec F S64x57344 .f32) (k : ℕ) (h : k < 448) (j : S64x128.Idx) :
    cols X k h j = X (Fin.cons (j 0) (Fin.cons ⟨128 * k + (j 1).val, by have := (j 1).isLt; simp at this ⊢; omega⟩ finZeroElim)) := by
  unfold cols extractStridedSlice
  congr 1
  funext a
  fin_cases a
  · exact Fin.ext (Nat.zero_add _)
  · rfl

/-- Two buffers that agree on the first 25152 columns. -/
def Agree (X X' : FVec F S64x57344 .f32) : Prop := ∀ j : S64x57344.Idx, (j 1).val < 25152 → X j = X' j

/-- They agree on every column block below the 196th. -/
theorem Agree.cols {X X' : FVec F S64x57344 .f32} (h : Agree X X') (k : ℕ) (hk : k < 448) (hk' : k < 196) :
    cols X k hk = cols X' k hk := by
  funext j
  rw [cols_apply, cols_apply]
  refine h _ ?_
  have := (j 1).isLt
  show 128 * k + (j 1).val < 25152
  have : (j 1).val < 128 := this
  omega

/-- They have the same running sum over the first `n` column blocks, `n` at most 196. -/
theorem Agree.blockSum {X X' Y Y' : FVec F S64x57344 .f32} (hX : Agree X X') (hY : Agree Y Y') (a : FVec F S64x128 .f32) :
    ∀ (n : ℕ) (hn : n ≤ 448), n ≤ 196 → blockSum X Y a n hn = blockSum X' Y' a n hn
  | 0, _, _ => rfl
  | n + 1, hn, h => by
    show step (Prior.blockSum X Y a n _) (Prior.cols X n _) (Prior.cols Y n _) = step (Prior.blockSum X' Y' a n _) (Prior.cols X' n _) (Prior.cols Y' n _)
    rw [Agree.blockSum hX hY a n _ (by omega), hX.cols n _ (by omega), hY.cols n _ (by omega)]

/-- The 197th column block of each, masked, is the same. -/
theorem Agree.mask {X X' : FVec F S64x57344 .f32} (h : Agree X X') :
    select (cmpi .slt (iota .tc S64x128 32 [1] iota_S64x128_d1_w32) (broadcast S64x128 64#32)) (Prior.cols X 196 (by omega))
        (broadcast S64x128 (Scalar.ofBits .f32 0x00000000#32))
      = select (cmpi .slt (iota .tc S64x128 32 [1] iota_S64x128_d1_w32) (broadcast S64x128 64#32)) (Prior.cols X' 196 (by omega))
        (broadcast S64x128 (Scalar.ofBits .f32 0x00000000#32)) := by
  rw [mask_eq, mask_eq]
  funext j
  show (if _ then _ else _) = (if _ then _ else _)
  split
  · rename_i hl
    rw [cols_apply, cols_apply]
    refine h _ ?_
    show 128 * 196 + (j 1).val < 25152
    omega
  · rfl

/-- The result's word depends only on the first 25152 columns of the blocks. -/
theorem tailWord_agree {X X' Y Y' : FVec F S64x57344 .f32} (hX : Agree X X') (hY : Agree Y Y') (a : FVec F S64x128 .f32) :
    tailWord X Y a = tailWord X' Y' a := by
  unfold tailWord
  rw [hX.blockSum hY a 196 _ (le_refl _)]
  unfold k0_pay3
  simp only [shapeCast_self]
  rw [hX.mask, hY.mask]

end Cert.KernelIdeal.Prior

end
-- ==== Proof.Ideal.Run.lean ====
module

public import proofs.«01_k».proof.Proof.Ideal.Blocks
public import Idealize.ShloMosaic.Lib.Pipeline.FrameSuffix

@[expose] public section

set_option maxRecDepth 16384

noncomputable section

namespace Cert.KernelIdeal.Prior

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-! ## The grid's eighteen points -/

/-- The first point alone starts the accumulator. -/
theorem first_iff : ∀ t : Fin grid0.N, isFirst (grid0.coords t) ↔ t.val = 0 := by decide +kernel
/-- Every point but the last has a full block. -/
theorem isFull_iff : ∀ t : Fin grid0.N, isFull (grid0.coords t) ↔ t.val < 17 := by decide +kernel
/-- The last point alone writes the result. -/
theorem last_iff : ∀ t : Fin grid0.N, k0_cond3 (grid0.coords t) = 1#1 ↔ t.val = 17 := by decide +kernel
/-- A full block lies inside its array. -/
theorem clip0 : ∀ t : Fin grid0.N, t.val < 17 → ∀ a, win0_0.clip (grid0.coords t) a = none := by decide +kernel
/-- A full block lies inside its array. -/
theorem clip1 : ∀ t : Fin grid0.N, t.val < 17 → ∀ a, win0_1.clip (grid0.coords t) a = none := by decide +kernel
/-- The last block has at least 25152 columns inside its array. -/
theorem xsize0 : ∀ t : Fin grid0.N, ∀ a, (![64, 25152] : Fin 2 → ℕ) a ≤ win0_0.xsize (grid0.coords t) a := by decide +kernel
/-- The last block has at least 25152 columns inside its array. -/
theorem xsize1 : ∀ t : Fin grid0.N, ∀ a, (![64, 25152] : Fin 2 → ℕ) a ≤ win0_1.xsize (grid0.coords t) a := by decide +kernel

/-! ## What the points compute -/

variable (m : (ℓ : Loc nD τ sig) → Buf (Elt F) ℓ) (ρ : Dev nD → PrngReg) (c : Dev nD)

/-- The first table's block at a point, zero past the array's end. -/
def blkX (t : Fin cfg0.N) : FVec F S64x57344 .f32 :=
  win0_0.fill (grid0.coords t) (fun _ => Scalar.ofBits .f32 0x00000000#32) (iblk m c 0 t)
/-- The second table's block at a point, zero past the array's end. -/
def blkY (t : Fin cfg0.N) : FVec F S64x57344 .f32 :=
  win0_1.fill (grid0.coords t) (fun _ => Scalar.ofBits .f32 0x00000000#32) (iblk m c 1 t)

/-- The accumulator after the first `n` points: zero, then a full block's squares at each. -/
def acc : ℕ → FVec F S64x128 .f32
  | 0 => k0_pay1
  | n + 1 => if h : n < 18 then blockSum (blkX m c ⟨n, h⟩) (blkY m c ⟨n, h⟩) (acc n) 448 (le_refl 448) else acc n

/-- The result's word. -/
def word : F .f32 := tailWord (blkX m c ⟨17, by decide⟩) (blkY m c ⟨17, by decide⟩) (acc m c 17)

/-- The scratch buffer as the body's accumulator. -/
abbrev accRef : Memref sig .tc .vmem S64x128 .f32 := Memref.whole cc0_scratch0

/-- Before the body's `n`-th point the accumulator holds the running sum, if a point came before and one is to come; the
    generator register is at anything throughout. -/
def inv (n : ℕ) : sProp 𝕄 :=
  iprop((∃ f : FVec F S64x128 .f32, ⌜0 < n → n < 18 → f = acc m c n⌝ ∗ owns (c : Thread nD τ) accRef fullShare f) ∗ ∃ r, prngReg c r)

/-- The launch's proof data: each table's buffer is left as it was filled, the result's holding its word; between the
    points the accumulator holds the running sum, from the first point's end to the last's. -/
def dats (_ : Fin 1) (c : Dev nD) : Dat τ (Elt F) Unit ℕ (UR sig nD τ) ℕ cfg0 c where
  A w := V m c (Pipeline.arrRef spec0 w)
  after w t := match w with
    | ⟨0, _⟩ => blkX m c t
    | ⟨1, _⟩ => blkY m c t
    | ⟨2, _⟩ => fun _ => word m c
  Φ p := inv m c p.val
  q _ := fullShare
  owed _ := 0

/-- A table's buffer holds the array's block, filled out with anything. -/
theorem before_0 (t : Fin cfg0.N) (d : S64x57344.Idx → Elt F .f32) :
    (dats m 0 c).before 0 t d = win0_0.fill (grid0.coords t) d (iblk m c 0 t) := by
  unfold Dat.before; rw [if_pos (fetch0_0 t)]; rfl
/-- A table's buffer holds the array's block, filled out with anything. -/
theorem before_1 (t : Fin cfg0.N) (d : S64x57344.Idx → Elt F .f32) :
    (dats m 0 c).before 1 t d = win0_1.fill (grid0.coords t) d (iblk m c 1 t) := by
  unfold Dat.before; rw [if_pos (fetch0_1 t)]; rfl

/-- A full block is filled whole. -/
theorem fill_full0 (t : Fin cfg0.N) (h : t.val < 17) (d : S64x57344.Idx → Elt F .f32) :
    win0_0.fill (grid0.coords t) d (iblk m c 0 t) = blkX m c t :=
  Pipeline.fill_of_clip_none (cfg := cfg0) 0 (grid0.coords t) (clip0 t h) _ _ _
/-- A full block is filled whole. -/
theorem fill_full1 (t : Fin cfg0.N) (h : t.val < 17) (d : S64x57344.Idx → Elt F .f32) :
    win0_1.fill (grid0.coords t) d (iblk m c 1 t) = blkY m c t :=
  Pipeline.fill_of_clip_none (cfg := cfg0) 1 (grid0.coords t) (clip1 t h) _ _ _

/-- The columns inside the array do not depend on what fills the others. -/
theorem fill_agree0 (t : Fin cfg0.N) (d : S64x57344.Idx → Elt F .f32) :
    Agree (F := F) (win0_0.fill (grid0.coords t) d (iblk m c 0 t)) (blkX m c t) := fun j hj => by
  have hm : win0_0.moved (grid0.coords t) j = true := (win0_0.moved_iff _ j).mpr fun a => by
    have hx := xsize0 t a
    have hl := (j a).isLt
    fin_cases a
    · exact lt_of_lt_of_le hl hx
    · exact lt_of_lt_of_le hj hx
  unfold blkX Window.fill
  rw [dif_pos hm, dif_pos hm]
/-- The columns inside the array do not depend on what fills the others. -/
theorem fill_agree1 (t : Fin cfg0.N) (d : S64x57344.Idx → Elt F .f32) :
    Agree (F := F) (win0_1.fill (grid0.coords t) d (iblk m c 1 t)) (blkY m c t) := fun j hj => by
  have hm : win0_1.moved (grid0.coords t) j = true := (win0_1.moved_iff _ j).mpr fun a => by
    have hx := xsize1 t a
    have hl := (j a).isLt
    fin_cases a
    · exact lt_of_lt_of_le hl hx
    · exact lt_of_lt_of_le hj hx
  unfold blkY Window.fill
  rw [dif_pos hm, dif_pos hm]

/-! ## The body at a point -/

/-- The configuration's body at a point is the printed body on that point's staging buffers. -/
theorem defs₀_row (t : Fin cfg0.N) : defs₀ (F := F) .tc cfg0.body (cfg0.bodyArgs t (cfg0.slots t)) = bodyAt0 t := by
  unfold defs₀; rw [Defs.onTc_tc]

/-- The accumulator after a full block. -/
theorem acc_succ (t : Fin cfg0.N) : acc m c (t.val + 1) = blockSum (blkX m c t) (blkY m c t) (acc m c t.val) 448 (le_refl 448) :=
  dif_pos t.isLt

/-- A table's buffer is left as the fetch filled it. -/
theorem after_0 (t : Fin cfg0.N) (d : S64x57344.Idx → Elt F .f32) :
    (win0 0).fill (grid0.coords t) d ((win0 0).cut (grid0.coords t) ((dats m 0 c).after 0 t))
      = win0_0.fill (grid0.coords t) d (iblk m c 0 t) :=
  congrArg (win0_0.fill (grid0.coords t) d) (win0_0.cut_fill _ _ _)
/-- A table's buffer is left as the fetch filled it. -/
theorem after_1 (t : Fin cfg0.N) (d : S64x57344.Idx → Elt F .f32) :
    (win0 1).fill (grid0.coords t) d ((win0 1).cut (grid0.coords t) ((dats m 0 c).after 1 t))
      = win0_1.fill (grid0.coords t) d (iblk m c 1 t) :=
  congrArg (win0_1.fill (grid0.coords t) d) (win0_1.cut_fill _ _ _)

/-- Before the last point the result's buffer is idle. -/
theorem idle_of_lt (t : Fin cfg0.N) (h : t.val < 17) : idle0 2 (grid0.coords t) = true := by
  show (!(k0_cond3 (grid0.coords t) == 1#1)) = true
  rw [Bool.not_eq_true', beq_eq_false_iff_ne]
  intro e
  have := (last_iff t).mp e
  omega
/-- At the last point it is not. -/
theorem idle_last (t : Fin cfg0.N) (h : t.val = 17) : idle0 2 (grid0.coords t) = false := by
  show (!(k0_cond3 (grid0.coords t) == 1#1)) = false
  rw [(last_iff t).mpr h]
  rfl
/-- Before the last point the result's buffer is not written back. -/
theorem flush_of_lt (t : Fin cfg0.N) (h : t.val < 17) : (win0 2).flush t = false := by
  rw [Bool.eq_false_iff]
  intro e
  have := (flush0_2 t).mp e
  omega

/-- The invariant where the accumulator holds the running sum. -/
theorem inv_intro (n : ℕ) : iprop(owns (c : Thread nD τ) accRef fullShare (acc m c n) ∗ ∃ r, prngReg c r) ⊢ inv m c n := by
  unfold inv
  iintro ⟨HA, HR⟩
  isplitl [HA]
  · iexists acc m c n
    isplitr
    · ipureintro; exact fun _ _ => rfl
    iexact HA
  iexact HR

/-- The body at a point before the last, from the running sum so far (at the first point: from anything): it adds the
    point's blocks. -/
theorem sound_full (t : Fin cfg0.N) (h17 : t.val < 17) (f : FVec F S64x128 .f32) (hf : 0 < t.val → f = acc m c t.val)
    (Q : PUnit → sProp 𝕄) :
    iprop(owns (c : Thread nD τ) (stage0_0 (cfg0.slots t 0)) fullShare (blkX m c t)
        ∗ owns (c : Thread nD τ) (stage0_1 (cfg0.slots t 1)) fullShare (blkY m c t)
        ∗ owns (c : Thread nD τ) accRef fullShare f
        ∗ (iprop(owns (c : Thread nD τ) (stage0_0 (cfg0.slots t 0)) fullShare (blkX m c t)
            ∗ owns (c : Thread nD τ) (stage0_1 (cfg0.slots t 1)) fullShare (blkY m c t)
            ∗ owns (c : Thread nD τ) accRef fullShare (acc m c (t.val + 1))) -∗ Q ⟨⟩))
      ⊢ wp frame (wpE (defs₀ (F := F)) 𝒱₀ c none) Set.univ (bodyAt0 t) Q := by
  have h3 : ¬k0_cond3 (grid0.coords t) = 1#1 := fun e => by have := (last_iff t).mp e; omega
  have hF : isFull (grid0.coords t) := (isFull_iff t).mpr h17
  rw [acc_succ]
  unfold bodyAt0
  rw [cc0__prior_body_eq_skeleton]
  by_cases h0 : t.val = 0
  · rw [body_first _ _ _ _ _ _ _ _ _ ((first_iff t).mpr h0) hF h3, h0]
    iintro ⟨H0, H1, HA, Hk⟩
    iapply (wp_start c)
    isplitl [HA]; · iexact HA
    iintro HA
    iapply (wp_full c)
    isplitl [H0]; · iexact H0
    isplitl [H1]; · iexact H1
    isplitl [HA]; · iexact HA
    iexact Hk
  · rw [body_full _ _ _ _ _ _ _ _ _ (fun e => h0 ((first_iff t).mp e)) hF h3, hf (Nat.pos_of_ne_zero h0)]
    iintro ⟨H0, H1, HA, Hk⟩
    iapply (wp_full c)
    isplitl [H0]; · iexact H0
    isplitl [H1]; · iexact H1
    isplitl [HA]; · iexact HA
    iexact Hk

/-- The body at the last point, from the running sum: it writes the result's word, whatever fills the blocks past the
    arrays' ends. -/
theorem sound_last (t : Fin cfg0.N) (h : t.val = 17) (d0 d1 : S64x57344.Idx → Elt F .f32) (o : S1x1.Idx → Elt F .f32)
    (Q : PUnit → sProp 𝕄) :
    iprop(owns (c : Thread nD τ) (stage0_0 (cfg0.slots t 0)) fullShare (win0_0.fill (grid0.coords t) d0 (iblk m c 0 t))
        ∗ owns (c : Thread nD τ) (stage0_1 (cfg0.slots t 1)) fullShare (win0_1.fill (grid0.coords t) d1 (iblk m c 1 t))
        ∗ owns (c : Thread nD τ) (stage0_2 (cfg0.slots t 2)) fullShare o
        ∗ owns (c : Thread nD τ) accRef fullShare (acc m c 17)
        ∗ (iprop(owns (c : Thread nD τ) (stage0_0 (cfg0.slots t 0)) fullShare (win0_0.fill (grid0.coords t) d0 (iblk m c 0 t))
            ∗ owns (c : Thread nD τ) (stage0_1 (cfg0.slots t 1)) fullShare (win0_1.fill (grid0.coords t) d1 (iblk m c 1 t))
            ∗ owns (c : Thread nD τ) (stage0_2 (cfg0.slots t 2)) fullShare ((fun _ => word m c) : S1x1.Idx → Elt F .f32)
            ∗ owns (c : Thread nD τ) accRef fullShare (acc m c 17)) -∗ Q ⟨⟩))
      ⊢ wp frame (wpE (defs₀ (F := F)) 𝒱₀ c none) Set.univ (bodyAt0 t) Q := by
  obtain rfl : t = ⟨17, by decide⟩ := Fin.ext h
  have hw := tailWord_agree (fill_agree0 m c ⟨17, by decide⟩ d0) (fill_agree1 m c ⟨17, by decide⟩ d1) (acc m c 17)
  unfold bodyAt0
  rw [cc0__prior_body_eq_skeleton, body_last _ _ _ _ _ _ _ _ _ (fun e => by have := (first_iff _).mp e; omega)
    (fun e => by have := (isFull_iff _).mp e; omega) ((last_iff _).mpr h)]
  unfold word
  rw [← hw]
  iintro ⟨H0, H1, H2, HA, Hk⟩
  iapply (wp_last c)
  isplitl [H0]; · iexact H0
  isplitl [H1]; · iexact H1
  isplitl [H2]; · iexact H2
  isplitl [HA]; · iexact HA
  iexact Hk

/-- The body's obligation at every point. -/
theorem body_obligation : BodyObligationLoose (dats m 0 c) (defs₀ (F := F)) 𝒱₀ () Set.univ := fun t => by
  rw [bigSep_W0, bigSep_W0, defs₀_row]
  simp only
  rw [show (dats m 0 c).Φ t.castSucc = inv m c t.val from rfl, show (dats m 0 c).Φ t.succ = inv m c (t.val + 1) from rfl,
    show (dats m 0 c).owesAt () t.succ = (dats m 0 c).owesAt () t.castSucc from rfl]
  have hN : t.val < 18 := t.isLt
  by_cases h17 : t.val < 17
  · rw [idle_of_lt t h17, flush_of_lt t h17]
    simp only [before_0, before_1, fill_full0 m c t h17, fill_full1 m c t h17]
    rw [inv.eq_def m c t.val]
    iintro ⟨⟨⟨%a, %ha, HA⟩, HR⟩, Ho, ⟨%d0, H0⟩, ⟨%d1, H1⟩, H2⟩
    iapply (sound_full m c t h17 a fun h => ha h hN)
    isplitl [H0]; · iexact H0
    isplitl [H1]; · iexact H1
    isplitl [HA]; · iexact HA
    iintro ⟨H0, H1, HA⟩
    isplitl [HA HR]
    · iapply (inv_intro m c (t.val + 1))
      isplitl [HA]; · iexact HA
      iexact HR
    isplitl [Ho]; · iexact Ho
    isplitl [H0]
    · iexists d0; rw [after_0 m c t d0, fill_full0 m c t h17]; iexact H0
    isplitl [H1]
    · iexists d1; rw [after_1 m c t d1, fill_full1 m c t h17]; iexact H1
    iexact H2
  · have h : t.val = 17 := by omega
    rw [idle_last t h]
    simp only [before_0, before_1]
    rw [inv.eq_def m c t.val]
    iintro ⟨⟨⟨%a, %ha, HA⟩, HR⟩, Ho, ⟨%d0, H0⟩, ⟨%d1, H1⟩, ⟨%d2, H2⟩⟩
    rw [ha (by omega) hN, h]
    iapply (sound_last m c t h d0 d1 _)
    isplitl [H0]; · iexact H0
    isplitl [H1]; · iexact H1
    isplitl [H2]; · iexact H2
    isplitl [HA]; · iexact HA
    iintro ⟨H0, H1, H2, HA⟩
    isplitl [HA HR]
    · unfold inv
      isplitl [HA]
      · iexists acc m c 17
        isplitr
        · ipureintro; exact fun _ h' => absurd h' (by omega)
        iexact HA
      iexact HR
    isplitl [Ho]; · iexact Ho
    isplitl [H0]
    · iexists d0; rw [after_0 m c t d0]; iexact H0
    isplitl [H1]
    · iexists d1; rw [after_1 m c t d1]; iexact H1
    iexact H2

/-! ## The run -/

/-- The invariant holds at the launch, -/
theorem inv_in : (Pipeline.ΦA spec0 c : sProp 𝕄) ⊢ inv m c 0 := by
  unfold Pipeline.ΦA inv
  rw [scopedRest0_eq]
  iintro ⟨⟨%f, HA⟩, HR⟩
  isplitl [HA]
  · iexists f
    isplitr
    · ipureintro; exact fun h => absurd h (lt_irrefl 0)
    rw [owns_whole]
    iexact HA
  iexact HR

/-- and gives the scratch buffer back. -/
theorem inv_out (n : ℕ) : inv m c n ⊢ (Pipeline.ΦA spec0 c : sProp 𝕄) := by
  unfold Pipeline.ΦA inv
  rw [scopedRest0_eq]
  iintro ⟨⟨%f, -, HA⟩, HR⟩
  isplitl [HA]
  · iexists f
    rw [owns_whole]
    exact BI.Entails.refl _
  iexact HR

/-- The whole program's run: the arrays end as the launch's data say, every other buffer as the host lines leave it, every
    semaphore counter at zero. -/
theorem run_main : θ_run defs (onTc (τ := τ) (main (F := F))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m ρ main
    (fun c => body_obligation m c) (fun c => (dats m 0 c).share_full fun _ => rfl) (fun _ _ => rfl)
    (V0 m) [hostOps1] sfx_sub sfx_fresh sfx_keeps (hmain m 𝒱₀) (fun _ _ => rfl)
    (fun c => inv_in m c) (fun c => inv_out m c _) (Q' := _) (hQ' := fun _ h => h)

/-- The kernel terminates without fault, its arguments unchanged and every semaphore at zero. -/
theorem frame_main : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.sem = fun _ => 0) :=
  (θ_run defs _ _).mono (fun _ ⟨h, hs⟩ => ⟨fun c => ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩, hs⟩) (run_main m ρ)

end Cert.KernelIdeal.Prior

end
-- ==== Proof.Ideal.Read.lean ====
module

public import proofs.«01_k».proof.Proof.Ideal.Run
public import Idealize.ShloMosaic.Lib.Pipeline.Value
public import Idealize.ShloMosaic.Lib.ValueIdxCore
public import Idealize.ShloMosaic.Lib.StableHlo.Run

@[expose] public section

set_option maxRecDepth 16384

noncomputable section

namespace Cert.KernelIdeal.Prior

open Cert.KernelIdeal Cert.KernelIdeal.Gen
open Idealize.ShloMosaic Idealize.ShloMosaic.TcCoe
open Idealize.SL.Sem Idealize.ShloMosaic.StableHlo
open Idealize.ShloMosaic.Pipeline (Dat Cfg Window)
open Idealize.ShloMosaic.ValueIdx (ix2 eq_ix2)

variable {F : FTy → Type} [FloatOps F] [Named F]
variable (m : (ℓ : Loc nD τ sig) → Buf (Elt F) ℓ) (c : Dev nD)

/-! ## The result -/

/-- Two points that write the result back are the same: the last. -/
theorem flush_unique (t t' : Fin cfg0.N) (h : (cfg0.win 2).flush t = true) (h' : (cfg0.win 2).flush t' = true) : t = t' := by
  have h₁ := (flush0_2 t).mp h
  have h₂ := (flush0_2 t').mp h'
  have hN : t.val < 18 := t.isLt
  have hN' : t'.val < 18 := t'.isLt
  exact Fin.ext (by omega)

/-- The kernel's 1×1 result array ends at the result's word. -/
theorem arr_result : (dats m 0 c).arrAt 2 cfg0.N = (fun _ => word m c : S1x1.Idx → F .f32) := by
  have hf : (cfg0.win 2).flush ⟨17, by decide⟩ = true := (flush0_2 _).mpr rfl
  have e : ∀ i i' : S1x1.Idx, i = i' := fun i i' => funext fun a => Fin.ext (by
    have hi := (i a).isLt
    have hi' := (i' a).isLt
    fin_cases a
    · exact (Nat.lt_one_iff.mp hi).trans (Nat.lt_one_iff.mp hi').symm
    · exact (Nat.lt_one_iff.mp hi).trans (Nat.lt_one_iff.mp hi').symm)
  funext i
  exact (congrArg ((dats m 0 c).arrAt 2 cfg0.N : S1x1.Idx → F .f32) (e i _)).trans
    ((dats m 0 c).arrAt_emb_eq_flushed 2 (fun t t' h h' hne => absurd (flush_unique t t' h h') hne) ⟨17, by decide⟩ hf
      (fun a => ⟨0, by fin_cases a <;> decide⟩))

/-- The program's result is the result's word. -/
theorem result : Pipeline.afterTail₀ cfgs (dats m) 0 (V0 m) [hostOps1] c main_v3 = (fun _ => word m c : S_.Idx → F .f32) := by
  have hv : Pipeline.withArrays spec0 c (V0 m c) (fun w => (dats m 0 c).arrAt w cfg0.N) (Proc.devRef .tc main_v2)
      = (fun _ => word m c : S1x1.Idx → F .f32) :=
    (Pipeline.withArrays_arr spec0 (by decide) c (V0 m c) (fun w => (dats m 0 c).arrAt w cfg0.N) 2).trans (arr_result m c)
  unfold Pipeline.afterTail₀
  rw [show ([hostOps1].flatten : List (HloOp τ sig (Elt F))) = hostOps1 from rfl]
  unfold hostOps1
  after_results
  funext i
  exact congrFun hv (Shape.reshapeEquiv shapeCasts_S1x1_S_ i)

/-- The kernel's result ends at the result's word, its arguments unchanged. -/
theorem value_main (ρ : Dev nD → PrngReg) : θ_run defs (onTc (τ := τ) (main (F := F))) ⟨m, fun _ => 0, ρ⟩ (fun r => ∀ c : Dev nD,
    r.2.mem ((c.tc : Thread nD τ).loc main_v3) = (fun _ => word m c : S_.Idx → F .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c => ⟨((h.1 c).2 main_v3 (Pipeline.mem_restRefs_of main_v3 (by decide) (by decide))).trans (result m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩) (run_main m ρ)

/-! ## The tables -/

/-- The first table enters the launch transposed. -/
theorem V_main_v0 : V m c main_v0 = transpose S64x1000000 [1, 0] (m ((c : Thread nD τ).loc main_arg3)) transposes_S1000000x64_S64x1000000_1_0 := by
  show StableHlo.after hostOps0 (fun b => m (c, b)) (Proc.devRef .tc main_v0) = _
  unfold hostOps0
  after_results

/-- The second table enters the launch transposed. -/
theorem V_main_v1 : V m c main_v1 = transpose S64x1000000 [1, 0] (m ((c : Thread nD τ).loc main_arg4)) transposes_S1000000x64_S64x1000000_1_0 := by
  show StableHlo.after hostOps0 (fun b => m (c, b)) (Proc.devRef .tc main_v1) = _
  unfold hostOps0
  after_results

/-- The transpose read at an index. -/
theorem transposed (W : S1000000x64.Idx → F .f32) (d : Fin 64) (v : Fin 1000000) :
    transpose S64x1000000 [1, 0] W transposes_S1000000x64_S64x1000000_1_0 (ix2 d v) = W (ix2 v d) := by
  refine transpose_apply _ _ _ _ _ fun b => ?_
  fin_cases b <;> rfl

/-- Where a block's element sits in its array. -/
theorem index0 : ∀ t : Fin grid0.N, win0_0.index t 0 = 0 ∧ win0_0.index t 1 = t.val := by decide +kernel
/-- Where a block's element sits in its array. -/
theorem index1 : ∀ t : Fin grid0.N, win0_1.index t 0 = 0 ∧ win0_1.index t 1 = t.val := by decide +kernel

/-- A column of a block that is a column of the array is moved by the fetch. -/
theorem inside0 : ∀ t : Fin grid0.N, win0_0.xsize (grid0.coords t) 0 = 64
    ∧ win0_0.xsize (grid0.coords t) 1 = min 57344 (1000000 - 57344 * t.val) := by decide +kernel
/-- A column of a block that is a column of the array is moved by the fetch. -/
theorem inside1 : ∀ t : Fin grid0.N, win0_1.xsize (grid0.coords t) 0 = 64
    ∧ win0_1.xsize (grid0.coords t) 1 = min 57344 (1000000 - 57344 * t.val) := by decide +kernel

/-- The first table's block at a point: column `l` of row `d` is the table's entry `(57344 t + l, d)`, while that is
    inside the table. -/
theorem blkX_apply (t : Fin cfg0.N) (d : Fin 64) (l : Fin 57344) (h : 57344 * t.val + l.val < 1000000) :
    blkX m c t (ix2 d l) = (m ((c : Thread nD τ).loc main_arg3) : S1000000x64.Idx → F .f32) (ix2 ⟨57344 * t.val + l.val, h⟩ d) := by
  have hm : win0_0.moved (grid0.coords t) (ix2 d l) = true := (win0_0.moved_iff _ _).mpr fun a => by
    have hl := l.isLt
    have hd := d.isLt
    fin_cases a
    · exact lt_of_lt_of_eq hd (inside0 t).1.symm
    · refine lt_of_lt_of_eq (?_ : l.val < _) (inside0 t).2.symm
      omega
  have he : (win0_0.blk t).view.emb (fun a => ⟨((ix2 d l : S64x57344.Idx) a).val, (win0_0.moved_iff _ _).mp hm a⟩)
      = (ix2 d ⟨57344 * t.val + l.val, h⟩ : S64x1000000.Idx) := by
    funext a
    refine Fin.ext ((win0_0.rect_emb_val t _ a).trans ?_)
    fin_cases a
    · show win0_0.index t 0 * 64 + d.val = d.val
      rw [(index0 t).1]; omega
    · show win0_0.index t 1 * 57344 + l.val = 57344 * t.val + l.val
      rw [(index0 t).2]; omega
  unfold blkX Window.fill
  rw [dif_pos hm]
  show (V m c main_v0 : S64x1000000.Idx → F .f32) _ = _
  rw [V_main_v0]
  exact (congrArg _ he).trans (transposed _ _ _)

/-- The second table's block at a point: column `l` of row `d` is the table's entry `(57344 t + l, d)`, while that is
    inside the table. -/
theorem blkY_apply (t : Fin cfg0.N) (d : Fin 64) (l : Fin 57344) (h : 57344 * t.val + l.val < 1000000) :
    blkY m c t (ix2 d l) = (m ((c : Thread nD τ).loc main_arg4) : S1000000x64.Idx → F .f32) (ix2 ⟨57344 * t.val + l.val, h⟩ d) := by
  have hm : win0_1.moved (grid0.coords t) (ix2 d l) = true := (win0_1.moved_iff _ _).mpr fun a => by
    have hl := l.isLt
    have hd := d.isLt
    fin_cases a
    · exact lt_of_lt_of_eq hd (inside1 t).1.symm
    · refine lt_of_lt_of_eq (?_ : l.val < _) (inside1 t).2.symm
      omega
  have he : (win0_1.blk t).view.emb (fun a => ⟨((ix2 d l : S64x57344.Idx) a).val, (win0_1.moved_iff _ _).mp hm a⟩)
      = (ix2 d ⟨57344 * t.val + l.val, h⟩ : S64x1000000.Idx) := by
    funext a
    refine Fin.ext ((win0_1.rect_emb_val t _ a).trans ?_)
    fin_cases a
    · show win0_1.index t 0 * 64 + d.val = d.val
      rw [(index1 t).1]; omega
    · show win0_1.index t 1 * 57344 + l.val = 57344 * t.val + l.val
      rw [(index1 t).2]; omega
  unfold blkY Window.fill
  rw [dif_pos hm]
  show (V m c main_v1 : S64x1000000.Idx → F .f32) _ = _
  rw [V_main_v1]
  exact (congrArg _ he).trans (transposed _ _ _)

end Cert.KernelIdeal.Prior

end
-- ==== Proof.Ideal.Value.lean ====
module

public import proofs.«01_k».proof.Proof.Ideal.Read
public import Idealize.ShloMosaic.PureOps.Ideal.Laws
public import Idealize.ShloMosaic.Lib.IdealHost
public import Idealize.ShloMosaic.Lib.Pipeline.ValueKit.Acc

@[expose] public section

set_option maxRecDepth 16384

noncomputable section

namespace Cert.KernelIdeal.Prior

open Cert.KernelIdeal Cert.KernelIdeal.Gen
open Idealize.ShloMosaic Idealize.ShloMosaic.TcCoe
open Idealize.ShloMosaic.Pipeline (Dat Cfg Window)
open Idealize.ShloMosaic.ValueIdx (ix2 eq_ix2 sum_idx2)
open Finset (range)

/-! ## The result's word over the extended reals -/

/-- The squares of the two tables' entries at row `v` and component `d`, added; zero past the last row. -/
def sq (W C : S1000000x64.Idx → EReal) (d : Fin 64) (v : ℕ) : EReal :=
  if h : v < 1000000 then W (ix2 ⟨v, h⟩ d) * W (ix2 ⟨v, h⟩ d) + C (ix2 ⟨v, h⟩ d) * C (ix2 ⟨v, h⟩ d) else 0

/-- At a row of the table it is the two squares. -/
theorem sq_of_lt (W C : S1000000x64.Idx → EReal) (d : Fin 64) (v : ℕ) (h : v < 1000000) :
    sq W C d v = W (ix2 ⟨v, h⟩ d) * W (ix2 ⟨v, h⟩ d) + C (ix2 ⟨v, h⟩ d) * C (ix2 ⟨v, h⟩ d) := dif_pos h

/-- Past the last row it is zero. -/
theorem sq_of_le (W C : S1000000x64.Idx → EReal) (d : Fin 64) (v : ℕ) (h : 1000000 ≤ v) : sq W C d v = 0 :=
  dif_neg (Nat.not_lt.mpr h)

/-- The running sum at an element is the start plus the sum of what each column block adds there. -/
theorem blockSum_sum (X Y : FVec Ideal S64x57344 .f32) (a : FVec Ideal S64x128 .f32) (j : S64x128.Idx) (f : ℕ → EReal) :
    ∀ (n : ℕ) (hn : n ≤ 448),
      (∀ (k : ℕ) (hk : k < n), (cols X k (by omega) j * cols X k (by omega) j + cols Y k (by omega) j * cols Y k (by omega) j : EReal) = f k) →
      blockSum X Y a n hn j = (a j + ∑ k ∈ range n, f k : EReal)
  | 0, _, _ => by rw [Finset.sum_range_zero, add_zero]; rfl
  | n + 1, hn, hf => by
    have ih := blockSum_sum X Y a j f n (by omega) fun k hk => hf k (by omega)
    rw [Finset.sum_range_succ, ← hf n (Nat.lt_succ_self n), ← add_assoc, ← ih, ← add_assoc]
    rfl

variable (m : (ℓ : Loc nD τ sig) → Buf (Elt Ideal) ℓ) (c : Dev nD)

/-- The first table. -/
abbrev tabW : S1000000x64.Idx → EReal := m ((c : Thread nD τ).loc main_arg3)
/-- The second table. -/
abbrev tabC : S1000000x64.Idx → EReal := m ((c : Thread nD τ).loc main_arg4)

/-- Column `l` of point `t`'s blocks in row `d`: the tables' entries at row `v = 57344 t + l`, while that is a row. -/
theorem blk_row (t : Fin cfg0.N) (d : Fin 64) (l : Fin 57344) (v : ℕ) (hv : 57344 * t.val + l.val = v) (h : v < 1000000) :
    blkX m c t (ix2 d l) = tabW m c (ix2 ⟨v, h⟩ d) ∧ blkY m c t (ix2 d l) = tabC m c (ix2 ⟨v, h⟩ d) := by
  subst hv
  exact ⟨blkX_apply m c t d l h, blkY_apply m c t d l h⟩

/-- What column block `k` of point `t`'s blocks holds in lane `l` of row `d`: the tables' entries at row
    `128 (448 t + k) + l`, while that is a row. -/
theorem cols_sq (t : Fin cfg0.N) (k : ℕ) (hk : k < 448) (d : Fin 64) (l : Fin 128) (h : 128 * (448 * t.val + k) + l.val < 1000000) :
    cols (blkX m c t) k hk (ix2 d l) = tabW m c (ix2 ⟨128 * (448 * t.val + k) + l.val, h⟩ d)
      ∧ cols (blkY m c t) k hk (ix2 d l) = tabC m c (ix2 ⟨128 * (448 * t.val + k) + l.val, h⟩ d) := by
  have hl := l.isLt
  have hq : 128 * k + l.val < 57344 := by omega
  have hi : (Fin.cons d (Fin.cons ⟨128 * k + l.val, hq⟩ finZeroElim) : S64x57344.Idx) = ix2 d ⟨128 * k + l.val, hq⟩ := by
    funext a
    fin_cases a <;> rfl
  have hr := blk_row m c t d ⟨128 * k + l.val, hq⟩ _ (by show 57344 * t.val + (128 * k + l.val) = 128 * (448 * t.val + k) + l.val; omega) h
  rw [cols_apply, cols_apply]
  exact ⟨(congrArg (blkX m c t) hi).trans hr.1, (congrArg (blkY m c t) hi).trans hr.2⟩

/-- After `n` of the 17 full points, element `(d, l)` of the accumulator is the sum of the squares over the rows
    `128 b + l` with `b` below `448 n`. -/
theorem acc_sum (d : Fin 64) (l : Fin 128) : ∀ n : ℕ, n ≤ 17 →
    acc m c n (ix2 d l) = ∑ b ∈ range (448 * n), sq (tabW m c) (tabC m c) d (128 * b + l.val)
  | 0, _ => by
    rw [Nat.mul_zero, Finset.sum_range_zero]
    exact Ideal.ofBits_zero_f32
  | n + 1, hn => by
    have hl := l.isLt
    rw [acc_succ m c ⟨n, by show n < 18; omega⟩,
      blockSum_sum _ _ _ _ (fun k => sq (tabW m c) (tabC m c) d (128 * (448 * n + k) + l.val)) 448 (le_refl 448), acc_sum d l n (by omega),
      ← Finset.sum_range_add (fun b => sq (tabW m c) (tabC m c) d (128 * b + l.val)), ← Nat.mul_succ]
    intro k hk
    have hc := cols_sq m c ⟨n, by show n < 18; omega⟩ k hk d l (by show 128 * (448 * n + k) + l.val < 1000000; omega)
    rw [hc.1, hc.2, sq_of_lt _ _ _ _ (by omega)]

/-- The last point's accumulator, its 196 column blocks and its masked 197th added: the sum of the squares over the
    rows `128 b + l` for every `b` below 7813, of which those past the last row give zero. -/
theorem last_sum (d : Fin 64) (l : Fin 128) (x y : EReal)
    (hx : x = if l.val < 64 then cols (blkX m c ⟨17, by decide⟩) 196 (by omega) (ix2 d l) else 0)
    (hy : y = if l.val < 64 then cols (blkY m c ⟨17, by decide⟩) 196 (by omega) (ix2 d l) else 0) :
    (blockSum (blkX m c ⟨17, by decide⟩) (blkY m c ⟨17, by decide⟩) (acc m c 17) 196 (by omega) (ix2 d l) + x * x + y * y : EReal)
      = ∑ b ∈ range 7813, sq (tabW m c) (tabC m c) d (128 * b + l.val) := by
  have hl := l.isLt
  rw [blockSum_sum _ _ _ _ (fun k => sq (tabW m c) (tabC m c) d (128 * (448 * 17 + k) + l.val)) 196 (by omega), acc_sum m c d l 17 (le_refl 17),
    ← Finset.sum_range_add (fun b => sq (tabW m c) (tabC m c) d (128 * b + l.val)), add_assoc,
    Finset.sum_range_succ (fun b => sq (tabW m c) (tabC m c) d (128 * b + l.val)) 7812]
  · congr 1
    by_cases h : l.val < 64
    · have hc := cols_sq m c ⟨17, by decide⟩ 196 (by omega) d l (by show 128 * (448 * 17 + 196) + l.val < 1000000; omega)
      rw [hx, hy, if_pos h, if_pos h, hc.1, hc.2]
      exact (sq_of_lt _ _ _ _ _).symm
    · rw [hx, hy, if_neg h, if_neg h, sq_of_le _ _ _ _ (by omega), zero_mul, add_zero]
  · intro k hk
    have hc := cols_sq m c ⟨17, by decide⟩ k (by omega) d l (by show 128 * (448 * 17 + k) + l.val < 1000000; omega)
    rw [hc.1, hc.2, sq_of_lt _ _ _ _ (by omega)]

/-- The rows `128 b + l` with `b` below 7813 and `l` below 128 are all the table's rows, and 64 more that give zero. -/
theorem rows_sum (W C : S1000000x64.Idx → EReal) (d : Fin 64) :
    ∑ l : Fin 128, ∑ b ∈ range 7813, sq W C d (128 * b + l.val)
      = ∑ v : Fin 1000000, (W (ix2 v d) * W (ix2 v d) + C (ix2 v d) * C (ix2 v d)) := by
  rw [Finset.sum_comm]
  have h₁ : ∀ b : ℕ, ∑ l : Fin 128, sq W C d (128 * b + l.val) = ∑ l ∈ range 128, sq W C d (b * 128 + l) := fun b => by
    rw [Nat.mul_comm 128 b]
    exact Fin.sum_univ_eq_sum_range (fun l => sq W C d (b * 128 + l)) 128
  rw [Finset.sum_congr rfl fun b _ => h₁ b, Finset.sum_range_range_mul_add 7813 128 (sq W C d),
    show 7813 * 128 = 1000000 + 64 from rfl, Finset.sum_range_add,
    Finset.sum_eq_zero (s := range 64) fun k _ => sq_of_le W C d _ (Nat.le_add_right _ _), add_zero,
    ← Fin.sum_univ_eq_sum_range (sq W C d) 1000000]
  exact Finset.sum_congr rfl fun v _ => sq_of_lt W C d v.val v.isLt

/-- The named constant's value. -/
theorem named_norm : (Named.named (F := Ideal) (φ := .f32) κ "log_norm" 0xCCE059A9#32 : EReal) = (((-64000000) * (Real.log (13176795 / 2097152)) : ℝ) : EReal) := rfl

/-- The result's word: minus one half of the sum of the squares of both tables' entries, plus the named constant. -/
theorem word_eq : word m c
    = ((Ideal.ofBits .f32 0xBF000000#32
        * ∑ j : S1000000x64.Idx, (tabW m c j * tabW m c j + tabC m c j * tabC m c j)
      + (((-64000000) * (Real.log (13176795 / 2097152)) : ℝ) : EReal)) : EReal) := by
  have hs : ∀ (A : FVec Ideal S64x128 .f32),
      (extractAt ![0, 0, 0] (shapeCast S1x1x1 (multiReduction .add [1, 2] S1 (shapeCast S1x64x128 A shapeCasts_S64x128_S1x64x128) 0x00000000#32
          reduces_S1x64x128_S1 (.inl rfl) rfl) shapeCasts_S1_S1x1x1) inpos_S1x1x1_p0_0_0 : EReal) = ∑ d : Fin 64, ∑ l : Fin 128, A (ix2 d l) := by
    intro A
    refine (Ideal.multiReduction_add_total (shapeCast S1x64x128 A shapeCasts_S64x128_S1x64x128) 0x00000000#32 reduces_S1x64x128_S1 (by decide)
      (.inl rfl) rfl _).trans ?_
    refine Eq.trans ?_ (sum_idx2 (n0 := 64) (n1 := 128) A)
    exact Equiv.sum_comp (Shape.reshapeEquiv shapeCasts_S64x128_S1x64x128) A
  unfold word tailWord k0_pay3
  simp only [shapeCast_self]
  rw [hs, mask_eq, mask_eq]
  show (_ * _ + _ : EReal) = _
  refine congrArg₂ (fun x y : EReal => x + y) (congrArg (fun x : EReal => Ideal.ofBits .f32 0xBF000000#32 * x) ?_) named_norm
  refine Eq.trans ?_ (Finset.sum_comm.trans (sum_idx2 (n0 := 1000000) (n1 := 64) fun j => tabW m c j * tabW m c j + tabC m c j * tabC m c j).symm)
  refine Finset.sum_congr rfl fun d _ => ?_
  refine Eq.trans (Finset.sum_congr rfl fun l _ => ?_) (rows_sum _ _ d)
  refine last_sum m c d l _ _ ?_ ?_ <;>
  · show (if _ then _ else Ideal.ofBits .f32 0x00000000#32) = _
    rw [Ideal.ofBits_zero_f32]

end Cert.KernelIdeal.Prior

end
-- ==== Proof.Ideal.Reference.lean ====
module

public import proofs.«01_k».proof.Proof.Gen.ReferenceIdeal.Read
public import Idealize.ShloMosaic.Lib.ValueIdxCore
public import Idealize.ShloMosaic.PureOps.Ideal.Laws
public import Idealize.ShloMosaic.Lib.IdealHost

@[expose] public section

set_option maxRecDepth 16384

noncomputable section

namespace Cert.ReferenceIdeal.Prior

open Cert.ReferenceIdeal Cert.ReferenceIdeal.Read
open Idealize.ShloMosaic

/-! ## The reference's result over the extended reals -/

/-- The word of minus one half. -/
theorem minusHalf : Ideal.ofBits .f32 0xBF000000#32 = ((-(1 / 2) : ℝ) : EReal) := by
  simp [Ideal.ofBits, Ideal.ieee, -EReal.coe_mul, -EReal.coe_neg]; norm_num

/-- The word of one half. -/
theorem half : Ideal.ofBits .f32 0x3F000000#32 = ((1 / 2 : ℝ) : EReal) := by
  simp [Ideal.ofBits, Ideal.ieee, -EReal.coe_mul, -EReal.coe_neg]; norm_num

/-- The word nearest `2π`. -/
theorem twoPi : Ideal.ofBits .f32 0x40C90FDB#32 = ((13176795 / 2097152 : ℝ) : EReal) := by
  simp [Ideal.ofBits, Ideal.ieee, -EReal.coe_mul, -EReal.coe_neg]; norm_num

/-- Division by one leaves every extended real. -/
theorem div_one' (x : EReal) : Ideal.div x 1 = x := by
  simp [Ideal.div]

/-- The logarithm of one is zero. -/
theorem log_one' : Ideal.log 1 = 0 := by
  show (if (1 : ℝ) ≤ 0 then (⊥ : EReal) else (Real.log 1 : EReal)) = 0
  rw [if_neg (by norm_num), Real.log_one]; rfl

/-- The logarithm of the word nearest `2π` is the real one. -/
theorem log_twoPi : Ideal.log ((13176795 / 2097152 : ℝ) : EReal) = ((Real.log (13176795 / 2097152) : ℝ) : EReal) := by
  show (if (13176795 / 2097152 : ℝ) ≤ 0 then (⊥ : EReal) else _) = _
  rw [if_neg (by norm_num)]

/-- One entry's log density: minus one half of its square, less half the logarithm. -/
def dens (x : EReal) : EReal := ((-(1 / 2) : ℝ) : EReal) * (x * x) + ((-(1 / 2 * Real.log (13176795 / 2097152)) : ℝ) : EReal)

/-- One entry as the reference computes it: its division by one and its logarithm of one leave the log density. -/
theorem entry (x : EReal) :
    Ideal.ofBits .f32 0xBF000000#32 * (Ideal.div x (Ideal.ofBits .f32 0x3F800000#32) * Ideal.div x (Ideal.ofBits .f32 0x3F800000#32))
        - Ideal.log (Ideal.ofBits .f32 0x3F800000#32)
        - Ideal.ofBits .f32 0x3F000000#32 * Ideal.log (Ideal.ofBits .f32 0x40C90FDB#32) = dens x := by
  rw [Ideal.ofBits_one_f32, div_one', log_one', minusHalf, half, twoPi, log_twoPi, sub_zero, ← EReal.coe_mul, sub_eq_add_neg, ← EReal.coe_neg]
  rfl

variable (x3 x4 : S1000000x64.Idx → EReal)

/-- The first table's log densities, entry by entry. -/
theorem entry_v25 (j : S1000000x64.Idx) : val_main_v25 (F := Ideal) x3 j = dens (x3 j) := by
  rw [val_main_v25_apply, val_main_v20_apply, val_main_v16_apply, val_main_v15_apply, val_main_v14_apply, val_main_v13_apply, val_main_v12_apply,
    val_main_v19_apply, val_main_v24_apply]
  exact entry (x3 j)

/-- The second table's log densities, entry by entry. -/
theorem entry_v40 (j : S1000000x64.Idx) : val_main_v40 (F := Ideal) x4 j = dens (x4 j) := by
  rw [val_main_v40_apply, val_main_v35_apply, val_main_v31_apply, val_main_v30_apply, val_main_v29_apply, val_main_v28_apply, val_main_v27_apply,
    val_main_v34_apply, val_main_v39_apply]
  exact entry (x4 j)

/-- A square is not negative, at the infinities too. -/
theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- A real factor goes inside a finite sum of extended reals none of which is negative. -/
theorem mul_sum_of_nonneg {ι : Type*} (s : Finset ι) (f : ι → EReal) (hf : ∀ i, 0 ≤ f i) (a : EReal) :
    a * ∑ i ∈ s, f i = ∑ i ∈ s, a * f i := by
  classical
  induction s using Finset.induction_on with
  | empty => rw [Finset.sum_empty, Finset.sum_empty, mul_zero]
  | insert i s hi ih =>
    rw [Finset.sum_insert hi, Finset.sum_insert hi, EReal.left_distrib_of_nonneg (hf i) (Finset.sum_nonneg fun j _ => hf j), ih]

/-- `p` times `n` times a real, counted out among the extended reals. -/
theorem smul_smul_coe (p n : ℕ) (r : ℝ) : p • n • (r : EReal) = (((p : ℝ) * ((n : ℝ) * r) : ℝ) : EReal) := by
  rw [← EReal.coe_nsmul, ← EReal.coe_nsmul, nsmul_eq_mul, nsmul_eq_mul]

/-- A table's summed log densities: minus one half of its squares' sum, and its share of the constant. -/
theorem sum_dens (x : S1000000x64.Idx → EReal) :
    ∑ j, dens (x j) = ((-(1 / 2) : ℝ) : EReal) * (∑ j, x j * x j) + (((-32000000) * Real.log (13176795 / 2097152) : ℝ) : EReal) := by
  unfold dens
  rw [Finset.sum_add_distrib, mul_sum_of_nonneg _ _ (fun j => sq_nonneg (x j))]
  refine congrArg₂ (· + ·) rfl ?_
  rw [ValueIdx.sum_idx2 (n0 := 1000000) (n1 := 64)]
  simp only [Finset.sum_const, Finset.card_univ, Fintype.card_fin]
  rw [smul_smul_coe]
  refine congrArg (fun r : ℝ => (r : EReal)) ?_
  push_cast
  ring

/-- The reference's result: minus one half of the sum of the squares of both tables' entries, plus the constant. -/
theorem result_eq (i : S_.Idx) : val_main_v42 (F := Ideal) x3 x4 i
    = Ideal.ofBits .f32 0xBF000000#32 * (∑ j : S1000000x64.Idx, (x3 j * x3 j + x4 j * x4 j))
      + (((-64000000) * Real.log (13176795 / 2097152) : ℝ) : EReal) := by
  rw [val_main_v42_apply, val_main_v26_apply, val_main_v41_apply]
  show ((Ideal.ofBits .f32 0x00000000#32 + _) + (Ideal.ofBits .f32 0x00000000#32 + _) : EReal) = _
  rw [Ideal.ofBits_zero_f32, zero_add, zero_add, Finset.sum_congr rfl fun j _ => entry_v25 x3 j, Finset.sum_congr rfl fun j _ => entry_v40 x4 j,
    sum_dens, sum_dens, minusHalf, Finset.sum_add_distrib,
    EReal.left_distrib_of_nonneg (Finset.sum_nonneg fun j _ => sq_nonneg _) (Finset.sum_nonneg fun j _ => sq_nonneg _),
    add_add_add_comm, ← EReal.coe_add]
  refine congrArg₂ (· + ·) rfl (congrArg (fun r : ℝ => (r : EReal)) ?_)
  ring

end Cert.ReferenceIdeal.Prior

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Float.Run
public import proofs.«01_k».proof.Proof.Ideal.Value
public import proofs.«01_k».proof.Proof.Ideal.Reference

@[expose] public section

set_option maxRecDepth 16384

noncomputable section

namespace Cert.Proof

open Idealize.ShloMosaic Idealize.SL.Sem

/-- The kernel as printed terminates without fault, its arguments unchanged and every semaphore at zero. -/
theorem frame_kernel : Cert.quiescent_Kernel (hKernel := Cert.Kernel.Gen.facts) :=
  fun m g _ => Cert.Kernel.Prior.frame_main m g

/-- So does the kernel over the extended reals. -/
theorem frame_kernelIdeal : Cert.quiescent_KernelIdeal (hKernelIdeal := Cert.KernelIdeal.Gen.facts) :=
  fun m g _ => Cert.KernelIdeal.Prior.frame_main m g

/-- So does the reference over the extended reals, which has no semaphore at all. -/
theorem frame_referenceIdeal : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- The named constant: `-64000000 · log(13176795 / 2097152)` in the place of its rounded word. -/
theorem preserves : Cert.preserves_Kernel_KernelIdeal :=
  IdealRules.named_const.statement Cert.KernelIdeal.κ "log_norm" .f32 0xCCE059A9#32
    (((-64000000) * (Real.log (13176795 / 2097152)) : ℝ) : EReal) rfl

/-- The reference's result is the kernel's word, from the same two tables. -/
theorem same_value (m : (ℓ : Loc Cert.KernelIdeal.nD Cert.KernelIdeal.τ Cert.KernelIdeal.sig) → Buf (Elt Ideal) ℓ) (c : Dev Cert.KernelIdeal.nD) :
    Cert.ReferenceIdeal.Read.val_main_v42 (F := Ideal) (Cert.KernelIdeal.Prior.tabW m c) (Cert.KernelIdeal.Prior.tabC m c)
      = fun _ => Cert.KernelIdeal.Prior.word m c :=
  funext fun i => (Cert.ReferenceIdeal.Prior.result_eq _ _ i).trans (Cert.KernelIdeal.Prior.word_eq m c).symm

/-- Kernel and reference, from memories that agree on the arguments, end with the same result. -/
theorem algebraic : Cert.algebraic_KernelIdeal_ReferenceIdeal (hKernelIdeal := Cert.KernelIdeal.Gen.facts)
    (hReferenceIdeal := Cert.ReferenceIdeal.Gen.facts) := fun m g m' g' _ hm =>
  ⟨fun c => fun _ => Cert.KernelIdeal.Prior.word m c, Cert.KernelIdeal.Prior.value_main m g,
    (θ_run Cert.ReferenceIdeal.defs _ _).mono (fun r h c => ⟨by
      obtain ⟨_, _, _, h3, h4⟩ := hm c
      rw [(h c).1, h3, h4]
      exact (Cert.ReferenceIdeal.Read.val_main_v42_eq _ _).trans (same_value m c), (h c).2⟩) (Cert.ReferenceIdeal.Value.run m' g')⟩

/-- All five claims. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
